-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 2048]⟩ ⟨2, ![4096, 2048]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 2048]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![1024, 2048]⟩ ⟨2, ![4096, 2048]⟩ (Layout.meshBlock [2, 2, 4] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![4096, 512]⟩ ⟨2, ![4096, 2048]⟩ (Layout.meshBlock [2, 2, 4] ![[], [2]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x2048 : Shape := ⟨2, ![1024, 2048]⟩
abbrev S4096x512 : Shape := ⟨2, ![4096, 512]⟩
abbrev S3 : Shape := ⟨1, ![3]⟩
abbrev S_ : Shape := ⟨0, ![]⟩
abbrev S1 : Shape := ⟨1, ![1]⟩
abbrev S1024x512 : Shape := ⟨2, ![1024, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x2048, .bf16⟩
  | .hbm, ⟨1, _⟩ => ⟨S4096x512, .bf16⟩
  | .local _ .vmem, ⟨0, _⟩ => ⟨S1024x2048, .bf16⟩
  | .local _ .vmem, ⟨1, _⟩ => ⟨S4096x512, .bf16⟩
  | _, _ => ⟨S1024x2048, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32 : BitVec 32 := 1024#32
  let v73 : BitVec 32 := Scalar.muli v8 c1024_i32
  let c0_i32_50 : BitVec 32 := 0#32
  ![v73.toNat, 0]
def k0_off2 (d0 : Dev nD) (c1_i32_37 : BitVec 32) : Fin 2 → Nat :=
  let c0_i32_51 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c512_i32 : BitVec 32 := 512#32
  let v72 : BitVec 32 := Scalar.muli v71 c512_i32
  ![0, v72.toNat]
def k0_dev4 (d0 : Dev nD) : Nat :=
  let c0_i32_47 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_46 : BitVec 32 := 8#32
  let v74 : BitVec 32 := Scalar.muli v2 c8_i32_46
  let v75 : BitVec 32 := Scalar.addi c0_i32_47 v74
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_48 : BitVec 32 := 4#32
  let v76 : BitVec 32 := Scalar.muli v5 c4_i32_48
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v61 : BitVec 32 := Scalar.addi v8 c1_i32_37
  let c4_i32_38 : BitVec 32 := 4#32
  let c0_i32_39 : BitVec 32 := 0#32
  let v62 : BitVec 1 := Scalar.cmpi .eq c4_i32_38 c0_i32_39
  let c1_i32_40 : BitVec 32 := 1#32
  let v63 : BitVec 32 := Scalar.select v62 c1_i32_40 c4_i32_38
  let v64 : BitVec 32 := Scalar.remsi v61 v63
  let c0_i32_42 : BitVec 32 := 0#32
  let v66 : BitVec 1 := Scalar.cmpi .slt v64 c0_i32_42
  let c0_i32_43 : BitVec 32 := 0#32
  let v67 : BitVec 1 := Scalar.cmpi .slt v63 c0_i32_43
  let v68 : BitVec 1 := Scalar.xori v66 v67
  let c0_i32_41 : BitVec 32 := 0#32
  let v65 : BitVec 1 := Scalar.cmpi .ne v64 c0_i32_41
  let v69 : BitVec 1 := Scalar.andi v68 v65
  let v70 : BitVec 32 := Scalar.addi v64 v63
  let v71 : BitVec 32 := Scalar.select v69 v70 v64
  let c1_i32_49 : BitVec 32 := 1#32
  let v78 : BitVec 32 := Scalar.muli v71 c1_i32_49
  let v79 : BitVec 32 := Scalar.addi v77 v78
  v79.toNat
def k0_dev5 (d0 : Dev nD) : Nat :=
  let c0_i32_64 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_63 : BitVec 32 := 8#32
  let v99 : BitVec 32 := Scalar.muli v2 c8_i32_63
  let v100 : BitVec 32 := Scalar.addi c0_i32_64 v99
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v101 : BitVec 32 := Scalar.muli v5 c4_i32_65
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_52 : BitVec 32 := 2#32
  let v86 : BitVec 32 := Scalar.addi v8 c2_i32_52
  let c4_i32_53 : BitVec 32 := 4#32
  let c0_i32_54 : BitVec 32 := 0#32
  let v87 : BitVec 1 := Scalar.cmpi .eq c4_i32_53 c0_i32_54
  let c1_i32_55 : BitVec 32 := 1#32
  let v88 : BitVec 32 := Scalar.select v87 c1_i32_55 c4_i32_53
  let v89 : BitVec 32 := Scalar.remsi v86 v88
  let c0_i32_57 : BitVec 32 := 0#32
  let v91 : BitVec 1 := Scalar.cmpi .slt v89 c0_i32_57
  let c0_i32_58 : BitVec 32 := 0#32
  let v92 : BitVec 1 := Scalar.cmpi .slt v88 c0_i32_58
  let v93 : BitVec 1 := Scalar.xori v91 v92
  let c0_i32_56 : BitVec 32 := 0#32
  let v90 : BitVec 1 := Scalar.cmpi .ne v89 c0_i32_56
  let v94 : BitVec 1 := Scalar.andi v93 v90
  let v95 : BitVec 32 := Scalar.addi v89 v88
  let v96 : BitVec 32 := Scalar.select v94 v95 v89
  let c1_i32_66 : BitVec 32 := 1#32
  let v103 : BitVec 32 := Scalar.muli v96 c1_i32_66
  let v104 : BitVec 32 := Scalar.addi v102 v103
  v104.toNat
def k0_dev6 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v124 : BitVec 32 := Scalar.muli v2 c8_i32_80
  let v125 : BitVec 32 := Scalar.addi c0_i32_81 v124
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_82 : BitVec 32 := 4#32
  let v126 : BitVec 32 := Scalar.muli v5 c4_i32_82
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_69 : BitVec 32 := 3#32
  let v111 : BitVec 32 := Scalar.addi v8 c3_i32_69
  let c4_i32_70 : BitVec 32 := 4#32
  let c0_i32_71 : BitVec 32 := 0#32
  let v112 : BitVec 1 := Scalar.cmpi .eq c4_i32_70 c0_i32_71
  let c1_i32_72 : BitVec 32 := 1#32
  let v113 : BitVec 32 := Scalar.select v112 c1_i32_72 c4_i32_70
  let v114 : BitVec 32 := Scalar.remsi v111 v113
  let c0_i32_74 : BitVec 32 := 0#32
  let v116 : BitVec 1 := Scalar.cmpi .slt v114 c0_i32_74
  let c0_i32_75 : BitVec 32 := 0#32
  let v117 : BitVec 1 := Scalar.cmpi .slt v113 c0_i32_75
  let v118 : BitVec 1 := Scalar.xori v116 v117
  let c0_i32_73 : BitVec 32 := 0#32
  let v115 : BitVec 1 := Scalar.cmpi .ne v114 c0_i32_73
  let v119 : BitVec 1 := Scalar.andi v118 v115
  let v120 : BitVec 32 := Scalar.addi v114 v113
  let v121 : BitVec 32 := Scalar.select v119 v120 v114
  let c1_i32_83 : BitVec 32 := 1#32
  let v128 : BitVec 32 := Scalar.muli v121 c1_i32_83
  let v129 : BitVec 32 := Scalar.addi v127 v128
  v129.toNat
def k0_off3 (d0 : Dev nD) : Fin 2 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_86 : BitVec 32 := 512#32
  let v136 : BitVec 32 := Scalar.muli v8 c512_i32_86
  let v137 : Index := Scalar.indexCast v136
  ![0, v137.toNat]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1024_i32_87 : BitVec 32 := 1024#32
  let v140 : BitVec 32 := Scalar.muli v8 c1024_i32_87
  let v141 : Index := Scalar.indexCast v140
  let c0_88 : Index := 0#32
  ![v141.toNat, 0]
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4096x2048 : Shape := ⟨2, ![4096, 2048]⟩

abbrev nBuf : Space → Nat
  | .hbm => 1
  | .vmem => 0
  | .smem => 0
  | _ => 0

abbrev bufTy : (tb : Table) → Fin (tcTables nBuf tb) → BufTy
  | .hbm, ⟨0, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
  The geometry of the all-to-all, with no machine in it: which device sends to which, how a device's two staging
  buffers are cut into blocks, and what each buffer holds.

  - The sixteen devices are numbered row-major over (x, y, z) of a 2 × 2 × 4 mesh: device `c` stands at position
    `c % 4` of its line along z, and only the four devices of one line talk to each other.
  - `x`'s staging buffer [1024, 2048] is cut into four blocks of columns [1024, 512], one for each position.
  - The result's staging buffer [4096, 512] is cut into four blocks of rows [1024, 512], one for each position.
  - Device `c` puts its block of columns number `k` into block of rows number `c % 4` on the device at position `k`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Tactic

@[expose] public section

noncomputable section

namespace Cert.AllToAll

open Cert.KernelIdeal Cert.KernelIdeal.Gen
open Idealize.ShloMosaic
open Idealize.ShloMosaic.TcCoe
open Idealize.SL.Sem

variable {F : FTy → Type} [FloatOps F]

/-! ## The lines along z -/

set_option backward.proofsInPublic true in
/-- The device at position `k` of `c`'s line. -/
def dev (c : Dev nD) (k : Fin 4) : Dev nD := ⟨4 * (c.val / 4) + k.val, by
  have h : c.val < 16 := c.isLt
  show _ < 16; omega⟩

set_option backward.proofsInPublic true in
/-- The position of device `c` in its line. -/
def pos (c : Dev nD) : Fin 4 := ⟨c.val % 4, Nat.mod_lt _ (by decide)⟩

set_option backward.proofsInPublic true in
/-- The position `e + 1` steps after `c`'s, around the line. -/
def posAfter (c : Dev nD) (e : Fin 3) : Fin 4 := ⟨(c.val % 4 + e.val + 1) % 4, Nat.mod_lt _ (by decide)⟩

/-- The device `e + 1` steps after `c` around its line: the kernel's peer number `e`. -/
def peer (c : Dev nD) (e : Fin 3) : Dev nD := dev c (posAfter c e)

/-- `e + 1` steps and then `3 - e` steps lead around the line. -/
theorem peer_rev (c : Dev nD) (e : Fin 3) : peer (peer c e) e.rev = c := by revert c e; decide
/-- The same the other way around. -/
theorem peer_rev' (c : Dev nD) (e : Fin 3) : peer (peer c e.rev) e = c := by revert c e; decide
/-- A peer's position. -/
theorem pos_peer (c : Dev nD) (e : Fin 3) : pos (peer c e) = posAfter c e := by revert c e; decide
/-- The device at `c`'s position of a peer's line is `c`. -/
theorem dev_peer_pos (c : Dev nD) (e : Fin 3) : dev (peer c e) (pos c) = c := by revert c e; decide
/-- The device at `c`'s position of `c`'s line is `c`. -/
theorem dev_pos (c : Dev nD) : dev c (pos c) = c := by revert c; decide

/-- Taking every device to its peer number `e` permutes the devices. -/
def peers (e : Fin 3) : Dev nD ≃ Dev nD := ⟨fun c => peer c e, fun c => peer c e.rev, fun c => peer_rev c e, fun c => peer_rev' c e⟩

/-- The kernel's six computed device numbers: the three signals' and the three transfers'. -/
theorem signal0_eq (c : Dev nD) : (⟨k0_dev1 c, k0_dev1_lt c⟩ : Dev nD) = peer c 0 := by revert c; decide +kernel
theorem signal1_eq (c : Dev nD) : (⟨k0_dev2 c, k0_dev2_lt c⟩ : Dev nD) = peer c 1 := by revert c; decide +kernel
theorem signal2_eq (c : Dev nD) : (⟨k0_dev3 c, k0_dev3_lt c⟩ : Dev nD) = peer c 2 := by revert c; decide +kernel
theorem send0_eq (c : Dev nD) : (⟨k0_dev4 c, k0_dev4_lt c⟩ : Dev nD) = peer c 0 := by revert c; decide +kernel
theorem send1_eq (c : Dev nD) : (⟨k0_dev5 c, k0_dev5_lt c⟩ : Dev nD) = peer c 1 := by revert c; decide +kernel
theorem send2_eq (c : Dev nD) : (⟨k0_dev6 c, k0_dev6_lt c⟩ : Dev nD) = peer c 2 := by revert c; decide +kernel

/-! ## The blocks -/

/-- The two staging buffers. -/
abbrev xM : Memref sig .tc .vmem S1024x2048 .bf16 := Memref.whole cc0_stg0_0
abbrev oM : Memref sig .tc .vmem S4096x512 .bf16 := Memref.whole cc0_stg1_0

theorem col_inb (k : Fin 4) : ∀ a, (![0, 512 * k.val] : Fin 2 → ℕ) a + S1024x512.size a ≤ S1024x2048.size a := by
  revert k; decide
theorem row_inb (k : Fin 4) : ∀ a, (![1024 * k.val, 0] : Fin 2 → ℕ) a + S1024x512.size a ≤ S4096x512.size a := by
  revert k; decide

/-- Columns `512 k` to `512 k + 511` of `x`; rows `1024 k` to `1024 k + 1023` of the result. -/
abbrev colR (k : Fin 4) : Rect S1024x2048 := Rect.unit (s := S1024x2048) ![0, 512 * k.val] S1024x512.size (col_inb k)
abbrev rowR (k : Fin 4) : Rect S4096x512 := Rect.unit (s := S4096x512) ![1024 * k.val, 0] S1024x512.size (row_inb k)
abbrev colB (k : Fin 4) : Memref sig .tc .vmem S1024x512 .bf16 := xM.slice (colR k) (fun _ => rfl)
abbrev rowB (k : Fin 4) : Memref sig .tc .vmem S1024x512 .bf16 := oM.slice (rowR k) (fun _ => rfl)

/-- The kernel's computed offsets are those of blocks: a transfer reads the target's block of columns, -/
theorem off2_eq (c : Dev nD) (e : Fin 3) : k0_off2 c (BitVec.ofNat 32 (1 + e.val)) = ![0, 512 * (posAfter c e).val] := by
  revert c e; decide +kernel
/-- writes the sender's block of rows; -/
theorem off1_eq (c : Dev nD) : k0_off1 c = ![1024 * (pos c).val, 0] := k0_off1_eq c
/-- the local copy reads and writes the device's own blocks. -/
theorem off3_eq (c : Dev nD) : k0_off3 c = ![0, 512 * (pos c).val] := k0_off3_eq c
theorem off4_eq (c : Dev nD) : k0_off4 c = ![1024 * (pos c).val, 0] := k0_off4_eq c

/-- An element of `x`'s buffer is in block of columns `k` when its column is; -/
theorem mem_col (k : Fin 4) (i : S1024x2048.Idx) : i ∈ (colB k).view.set ↔ (i 1).val / 512 = k.val := by
  refine (ValueKit.mem_set_slice_whole_iff cc0_stg0_0 (colR k) i Iff.rfl).trans (Rect.mem_set_unit.trans ((Fin.forall_fin_two).trans ?_))
  show (0 ≤ (i 0).val ∧ (i 0).val < 0 + 1024) ∧ (512 * k.val ≤ (i 1).val ∧ (i 1).val < 512 * k.val + 512) ↔ _
  have h0 : (i 0).val < 1024 := (i 0).isLt
  omega

/-- an element of the result's buffer is in block of rows `k` when its row is. -/
theorem mem_row (k : Fin 4) (i : S4096x512.Idx) : i ∈ (rowB k).view.set ↔ (i 0).val / 1024 = k.val := by
  refine (ValueKit.mem_set_slice_whole_iff cc0_stg1_0 (rowR k) i Iff.rfl).trans (Rect.mem_set_unit.trans ((Fin.forall_fin_two).trans ?_))
  show (1024 * k.val ≤ (i 0).val ∧ (i 0).val < 1024 * k.val + 1024) ∧ (0 ≤ (i 1).val ∧ (i 1).val < 0 + 512) ↔ _
  have h0 : (i 1).val < 512 := (i 1).isLt
  omega

/-- The elements of a block of columns, and of a block of rows. -/
abbrev colSet (k : Fin 4) : Finset S1024x2048.Idx := (colB k).view.set
abbrev rowSet (k : Fin 4) : Finset S4096x512.Idx := (rowB k).view.set

/-- The blocks of columns are disjoint and together the whole buffer; -/
theorem col_disjoint (k k' : Fin 4) (h : k ≠ k') : Disjoint (colSet k) (colSet k') :=
  Finset.disjoint_left.mpr fun i hi hi' => h (Fin.ext (((mem_col k i).mp hi).symm.trans ((mem_col k' i).mp hi')))
theorem col_cover : (Finset.univ : Finset (Fin 4)).biUnion colSet = Finset.univ :=
  Finset.eq_univ_iff_forall.mpr fun i => Finset.mem_biUnion.mpr
    ⟨⟨(i 1).val / 512, by have h : (i 1).val < 2048 := (i 1).isLt; omega⟩, Finset.mem_univ _, (mem_col _ i).mpr rfl⟩
/-- and so are the blocks of rows. -/
theorem row_disjoint (k k' : Fin 4) (h : k ≠ k') : Disjoint (rowSet k) (rowSet k') :=
  Finset.disjoint_left.mpr fun i hi hi' => h (Fin.ext (((mem_row k i).mp hi).symm.trans ((mem_row k' i).mp hi')))
theorem row_cover : (Finset.univ : Finset (Fin 4)).biUnion rowSet = Finset.univ :=
  Finset.eq_univ_iff_forall.mpr fun i => Finset.mem_biUnion.mpr
    ⟨⟨(i 0).val / 1024, by have h : (i 0).val < 4096 := (i 0).isLt; omega⟩, Finset.mem_univ _, (mem_row _ i).mpr rfl⟩

/-- The blocks numbered from a device: its own, then its three peers'. -/
theorem blocks_all (c : Dev nD) (k : Fin 4) : k ∈ [pos c, posAfter c 0, posAfter c 1, posAfter c 2] := by
  revert c k; decide
theorem blocks_nodup (c : Dev nD) : [pos c, posAfter c 0, posAfter c 1, posAfter c 2].Nodup := by revert c; decide

/-! ## What the buffers hold -/

variable (m : (ℓ : Loc nD τ sig) → Buf (Elt F) ℓ)

/-- What device `c`'s `x` staging buffer holds: its argument, fetched whole. -/
def xAt (c : Dev nD) : (cc0_stg0_0 : Ref sig .tc).ty.Contents (Elt F) :=
  (win0_0.blk (0 : Fin 1)).view.read (Elt F) (m ((c : Thread nD τ).loc main_arg0))

set_option backward.proofsInPublic true in
/-- Where the element at `i` of device `c`'s result stands in the argument of the device it comes from: row
    `i 0 % 1024` of that device's `x`, at column `i 1` of the block of columns meant for `c`. -/
def srcIdx (c : Dev nD) (i : S4096x512.Idx) : S1024x2048.Idx :=
  Shape.pair ⟨(i 0).val % 1024, Nat.mod_lt _ (by decide)⟩
    ⟨512 * (pos c).val + (i 1).val, by
      have h : (i 1).val < 512 := (i 1).isLt
      have h' := (pos c).isLt
      show _ < 2048; omega⟩

set_option backward.proofsInPublic true in
/-- The position of the device that the element at `i` of a result comes from: the row's block. -/
def srcPos (i : S4096x512.Idx) : Fin 4 := ⟨(i 0).val / 1024, by have h : (i 0).val < 4096 := (i 0).isLt; omega⟩

/-- What device `c`'s result ends as: block of rows `k` is the block of columns `c % 4` of the device at position `k`. -/
def outAt (c : Dev nD) : (cc0_stg1_0 : Ref sig .tc).ty.Contents (Elt F) := fun i => xAt m (dev c (srcPos i)) (srcIdx c i)

/-- Block of columns `pos t` of device `s`'s `x`, written over block of rows `pos s` on a device `t` of the same line,
    leaves there what `outAt` says. -/
theorem moved (s t : Dev nD) (h : dev t (pos s) = s) (f : (cc0_stg1_0 : Ref sig .tc).ty.Contents (Elt F)) :
    ∀ i ∈ (rowB (pos s)).view.set,
      (rowB (pos s)).view.write (Elt F) f ((colB (pos t)).view.read (Elt F) (xAt m s)) Finset.univ i = outAt m t i := by
  intro i hi
  obtain ⟨j, -, rfl⟩ := Finset.mem_map.mp hi
  rw [View.write_emb_of_mem _ _ (Finset.mem_univ _)]
  have hr0 : ((rowB (pos s)).view.emb j 0).val = 1024 * (pos s).val + (j 0).val :=
    ValueKit.view_emb_slice_whole_unit_val cc0_stg1_0 _ _ (row_inb (pos s)) j 0
  have hr1 : ((rowB (pos s)).view.emb j 1).val = 0 + (j 1).val :=
    ValueKit.view_emb_slice_whole_unit_val cc0_stg1_0 _ _ (row_inb (pos s)) j 1
  have hc0 : ((colB (pos t)).view.emb j 0).val = 0 + (j 0).val :=
    ValueKit.view_emb_slice_whole_unit_val cc0_stg0_0 _ _ (col_inb (pos t)) j 0
  have hc1 : ((colB (pos t)).view.emb j 1).val = 512 * (pos t).val + (j 1).val :=
    ValueKit.view_emb_slice_whole_unit_val cc0_stg0_0 _ _ (col_inb (pos t)) j 1
  have hj0 : (j 0).val < 1024 := (j 0).isLt
  have hp : srcPos ((rowB (pos s)).view.emb j) = pos s := Fin.ext (by
    show ((rowB (pos s)).view.emb j 0).val / 1024 = _
    rw [hr0]; omega)
  have hi' : srcIdx t ((rowB (pos s)).view.emb j) = (colB (pos t)).view.emb j := by
    funext a; apply Fin.ext
    match a with
    | ⟨0, _⟩ =>
      show ((rowB (pos s)).view.emb j 0).val % 1024 = ((colB (pos t)).view.emb j 0).val
      rw [hr0, hc0]; omega
    | ⟨1, _⟩ =>
      show 512 * (pos t).val + ((rowB (pos s)).view.emb j 1).val = ((colB (pos t)).view.emb j 1).val
      rw [hr1, hc1]; omega
  show xAt m s ((colB (pos t)).view.emb j) = xAt m (dev t (srcPos ((rowB (pos s)).view.emb j))) (srcIdx t ((rowB (pos s)).view.emb j))
  rw [hp, hi', h]

/-- The cast the kernel stores through keeps the shape and so the values. -/
theorem stored_eq (v : Vec F S1024x512 .bf16) : k0_pay1 v = v := by
  unfold k0_pay1
  funext i
  exact congrArg v (Shape.reshapeEquiv_self _ i)

end Cert.AllToAll

end
-- ==== Proof.Protocol.lean ====
/-
  The protocol of the all-to-all: who owns what when, and which semaphore hands it over.

  Every device has a barrier semaphore, three send semaphores and three receive semaphores; each is used for one round.

  - Barrier: device `c` gets one unit from each of its three peers. With its unit a peer hands `c` the block of rows of
    the peer's own result that `c` will fill. So a device writes into a peer only what that peer has given it.
  - Send number `e`: the transfer to peer number `e`, when it has read its source, gives `c` its block of columns back.
  - Receive number `e`: the transfer from the device that has `c` as its peer number `e` gives `c` its block of rows
    back, filled.
-/
module

public import proofs.«01_k».proof.Proof.Mesh

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging's, and the protocol's with three duties to a round -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ)

/-! ## The semaphores -/

/-- The runtime's barrier semaphore. -/
abbrev barS : Sem sig := (SemArray.scalar (sig.barrier 0 rfl) : Sems sig S_).sem

set_option backward.proofsInPublic true in
/-- The kernel's own six transfer semaphores: three send, then three receive. -/
abbrev ownS (k : Fin 6) : DmaSem sig := ⟨k.val + 2, by have := k.isLt; show _ < 8; omega⟩
abbrev sendS (e : Fin 3) : DmaSem sig := ownS (e.castAdd 3)
abbrev recvS (e : Fin 3) : DmaSem sig := ownS (e.natAdd 3)

abbrev barCell (c : Dev nD) : GSem nD τ sig := ((c : Thread nD τ), .reg barS)
abbrev sendCell (c : Dev nD) (e : Fin 3) : GSem nD τ sig := ((c : Thread nD τ), .dma (sendS e))
abbrev recvCell (c : Dev nD) (e : Fin 3) : GSem nD τ sig := ((c : Thread nD τ), .dma (recvS e))

/-- A device's seven semaphores, indexed: the barrier semaphore, and its own six. -/
abbrev csem : Option (Fin 6) → SemLoc sig := fun | none => .reg barS | some k => .dma (ownS k)
abbrev osem : Fin 6 → SemLoc sig := fun k => .dma (ownS k)
abbrev kcell (ck : Dev nD × Option (Fin 6)) : GSem nD τ sig := ((ck.1 : Thread nD τ), csem ck.2)
abbrev sIx (e : Fin 3) : Option (Fin 6) := some (e.castAdd 3)
abbrev rIx (e : Fin 3) : Option (Fin 6) := some (e.natAdd 3)

/-- What one block's transfer credits a semaphore. -/
abbrev N : ℕ := (rowB 0).view.dmaCredit
theorem N_pos : 0 < N := View.dmaCredit_pos _ (by decide)

/-! ## Blocks held -/

/-- Device `c` holds its block of columns `k`, with what `x` has there. -/
def xPts (c : Dev nD) (k : Fin 4) : sProp 𝕄 :=
  (colB k).view.loc (c : Thread nD τ) ↦[(colB k).view.set]{fullShare} xAt m c
/-- The block of rows `k` of device `c`'s result, at contents `f`. -/
def oPts (c : Dev nD) (k : Fin 4) (f : (cc0_stg1_0 : Ref sig .tc).ty.Contents (Elt F)) : sProp 𝕄 :=
  (rowB k).view.loc (c : Thread nD τ) ↦[(rowB k).view.set]{fullShare} f

omit [FloatOps F] in
instance xPts_storable (c : Dev nD) (k : Fin 4) : BI.Storable (upEmb : UEmb _ 𝕄) (xPts (F := F) m c k) := by
  unfold xPts; infer_instance
omit [FloatOps F] in
instance oPts_storable (c : Dev nD) (k : Fin 4) (f) : BI.Storable (upEmb : UEmb _ 𝕄) (oPts (F := F) c k f) := by
  unfold oPts; infer_instance

/-! ## The schedule -/

/-- What the device that has `p` as its peer number `e` hands `p` with its barrier unit: its block of rows for `p`, and
    that the receive semaphore `p` will credit there is ready. -/
def barPay (p : Dev nD) (e : Fin 3) : sProp 𝕄 :=
  iprop((∃ f, oPts (peer p e.rev) (pos p) f) ∗ reached EX (recvCell (peer p e.rev) e.rev) 0)
/-- What a finished read of the source gives back. -/
def sendPay (c : Dev nD) (e : Fin 3) : sProp 𝕄 := xPts m c (posAfter c e)
/-- What an arrival gives: the sender's block of rows, filled. -/
def recvPay (t : Dev nD) (e : Fin 3) : sProp 𝕄 := oPts t (pos (peer t e.rev)) (outAt m t)

/-- Round 0 alone has duties: three units at a barrier semaphore, one block's credit at a transfer semaphore. -/
def sched : Rounds.Schedule (GSem nD τ sig) (Fin 3) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay g.1.1 d
    | .dma q => if q.val < 5 then sendPay m g.1.1 (Fin.ofNat 3 (q.val - 2)) else recvPay m g.1.1 (Fin.ofNat 3 (q.val - 5))
  amount_pos g _ _ _ := by
    split
    · exact Nat.one_pos
    · exact N_pos

instance sched_storable (g : GSem nD τ sig) (r : ℕ) (d : Fin 3) :
    BI.Storable (upEmb : UEmb _ 𝕄) ((sched (F := F) m).payload g r d) := by
  obtain ⟨t, (s | q)⟩ := g
  · show BI.Storable upEmb (barPay t.1 d); unfold barPay; infer_instance
  · show BI.Storable upEmb (if q.val < 5 then sendPay m t.1 (Fin.ofNat 3 (q.val - 2)) else recvPay m t.1 (Fin.ofNat 3 (q.val - 5)))
    unfold sendPay recvPay
    split <;> infer_instance

section Sched
variable (c : Dev nD) (e : Fin 3)

omit [FloatOps F] in
theorem duties_bar : (sched (F := F) m).duties (barCell c) 0 = Finset.univ := rfl
omit [FloatOps F] in
theorem duties_dma (q : DmaSem sig) : (sched (F := F) m).duties ((c : Thread nD τ), .dma q) 0 = {0} := rfl
omit [FloatOps F] in
theorem duties_later (g : GSem nD τ sig) : ∀ r, 1 ≤ r → (sched (F := F) m).duties g r = ∅ :=
  fun r hr => if_neg (by omega)
omit [FloatOps F] in
theorem expect_bar : (sched (F := F) m).expect (barCell c) 0 = 3 := by
  unfold Schedule.expect Schedule.amountOf
  rw [duties_bar, Finset.sum_congr rfl fun d _ => show (sched (F := F) m).amount (barCell c) 0 d = 1 from rfl, Finset.sum_const,
    Finset.card_univ, Fintype.card_fin, smul_eq_mul]
omit [FloatOps F] in
theorem expect_dma (q : DmaSem sig) : (sched (F := F) m).expect ((c : Thread nD τ), .dma q) 0 = N := by
  unfold Schedule.expect Schedule.amountOf
  rw [duties_dma, Finset.sum_singleton]; rfl
omit [FloatOps F] in
theorem payload_bar : (sched (F := F) m).payload (barCell c) 0 e = barPay c e := rfl
omit [FloatOps F] in
theorem payload_send (d : Fin 3) : (sched (F := F) m).payload (sendCell c e) 0 d = sendPay m c e := by
  fin_cases e <;> rfl
omit [FloatOps F] in
theorem payload_recv (d : Fin 3) : (sched (F := F) m).payload (recvCell c e) 0 d = recvPay m c e := by
  fin_cases e <;> rfl

omit [FloatOps F] in
/-- A conjunction over the three peer numbers, written out; -/
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
/-- and over the seven semaphores. -/
theorem bigSep_cells (Φ : Option (Fin 6) → sProp 𝕄) :
    bigSep Finset.univ Φ = iprop(Φ none ∗ Φ (sIx 0) ∗ Φ (sIx 1) ∗ Φ (sIx 2) ∗ Φ (rIx 0) ∗ Φ (rIx 1) ∗ Φ (rIx 2)) :=
  bigSep_univ_eq_bigSepL [none, sIx 0, sIx 1, sIx 2, rIx 0, rIx 1, rIx 2] (by decide) (by decide) Φ

omit [FloatOps F] in
/-- What the barrier hands a device: from each of its three peers, peer 0 first. -/
theorem rest_bar : bigSep ((sched (F := F) m).duties (barCell c) 0 \ ∅) (fun d => (sched (F := F) m).payload (barCell c) 0 d)
    = iprop(barPay c 2 ∗ barPay c 1 ∗ barPay c 0) := by
  rw [Finset.sdiff_empty, duties_bar]
  exact bigSep_univ_eq_bigSepL [2, 1, 0] (by decide) (by decide) _
omit [FloatOps F] in
theorem rest_send : bigSep ((sched (F := F) m).duties (sendCell c e) 0 \ ∅) (fun d => (sched (F := F) m).payload (sendCell c e) 0 d)
    = sendPay m c e := by
  rw [Finset.sdiff_empty, duties_dma, bigSep_singleton, payload_send]
omit [FloatOps F] in
theorem rest_recv : bigSep ((sched (F := F) m).duties (recvCell c e) 0 \ ∅) (fun d => (sched (F := F) m).payload (recvCell c e) 0 d)
    = recvPay m c e := by
  rw [Finset.sdiff_empty, duties_dma, bigSep_singleton, payload_recv]

end Sched

/-! ## What a device owes, and the order of waiting -/

/-- Device `c` owes its peer number `e` a block's credit, and a barrier unit. -/
abbrev dueRecv (c : Dev nD) (e : Fin 3) : CellTallies nD τ sig Unit := tallyAt (recvCell (peer c e) e) () N
abbrev dueBar (c : Dev nD) (e : Fin 3) : CellTallies nD τ sig Unit := tallyAt (barCell (peer c e)) () 1

/-- What is owed when the barrier is passed, and at the start; the last summand is what is paid next. -/
def owesSends (c : Dev nD) : CellTallies nD τ sig Unit := 0 + dueRecv c 2 + dueRecv c 1 + dueRecv c 0
def owesAll (c : Dev nD) : CellTallies nD τ sig Unit := owesSends c + dueBar c 2 + dueBar c 1 + dueBar c 0

/-- The waiting order: staging and send semaphores, then barrier semaphores, then receive semaphores. -/
def lv (g : GSem nD τ sig) (_ : Unit) : ℕ := match g.2 with | .reg _ => 1 | .dma q => if q.val < 5 then 0 else 2
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (e : Fin 3) : lv (recvCell c e) () = 2 := by fin_cases e <;> rfl

theorem pos_of_add {S T : CellTallies nD τ sig Unit} {g : GSem nD τ sig} {u : Unit} (h : 0 < (S + T) g u) : 0 < S g u ∨ 0 < T g u := by
  rw [Pi.add_apply, Finsupp.add_apply] at h; omega

/-- After the barrier only receive semaphores are owed; -/
theorem owesSends_pos {c : Dev nD} {g : GSem nD τ sig} {u : Unit} (h : 0 < owesSends c g u) : ∃ e, g = recvCell (peer c e) e := by
  unfold owesSends at h
  rcases pos_of_add h with h | h
  · rcases pos_of_add h with h | h
    · rcases pos_of_add h with h | h
      · exact absurd h (Nat.lt_irrefl 0)
      · exact ⟨2, (Pipeline.tallyAt_pos h).1⟩
    · exact ⟨1, (Pipeline.tallyAt_pos h).1⟩
  · exact ⟨0, (Pipeline.tallyAt_pos h).1⟩
/-- before it, barrier semaphores too. -/
theorem owesAll_pos {c : Dev nD} {g : GSem nD τ sig} {u : Unit} (h : 0 < owesAll c g u) :
    (∃ e, g = recvCell (peer c e) e) ∨ ∃ e, g = barCell (peer c e) := by
  unfold owesAll at h
  rcases pos_of_add h with h | h
  · rcases pos_of_add h with h | h
    · rcases pos_of_add h with h | h
      · exact Or.inl (owesSends_pos h)
      · exact Or.inr ⟨2, (Pipeline.tallyAt_pos h).1⟩
    · exact Or.inr ⟨1, (Pipeline.tallyAt_pos h).1⟩
  · exact Or.inr ⟨0, (Pipeline.tallyAt_pos h).1⟩

omit [FloatOps F] in
/-- The staging semaphores may be waited for with everything owed, and with nothing; -/
theorem mayWait_stage (c : Dev nD) (q : DmaSem sig) (hq : q.val < 5) (O : CellTallies nD τ sig Unit) (hO : O = owesAll c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases owesAll_pos hg with ⟨e, rfl⟩ | ⟨e, rfl⟩ <;> exact Finset.mem_singleton_self _)
      (fun p hp => by rw [Finset.mem_singleton.mp hp]; dsimp only [lv]; rw [if_pos hq])
      (fun g u hg => by
        rcases owesAll_pos hg with ⟨e, rfl⟩ | ⟨e, rfl⟩
        · rw [lv_recv]; decide
        · rw [lv_bar]; decide)
  · rw [MayWait_zero]; iintro -; iempintro

omit [FloatOps F] in
/-- the barrier semaphore with the three blocks' credits owed. -/
theorem mayWait_bar (c : Dev nD) : (levAts L lv : sProp 𝕄) ⊢ MayWait (c : Thread nD τ) (.reg barS) () (owesSends c) :=
  MayOwe.of_cut (L := L) (lev := lv) 1 (fun p hp => by rw [Finset.mem_singleton.mp hp, L_tc]; exact Finset.mem_singleton_self _)
    (fun g u hg => by obtain ⟨e, rfl⟩ := owesSends_pos hg; exact Finset.mem_singleton_self _)
    (fun p hp => by rw [Finset.mem_singleton.mp hp]; exact le_of_eq (lv_bar c))
    (fun g u hg => by obtain ⟨e, rfl⟩ := owesSends_pos hg; rw [lv_recv]; decide)

/-! ## What a device's run starts from and ends with -/

/-- Known to every device: each semaphore's invariant, and that each is at round 0. -/
def records (K : Dev nD × Option (Fin 6) → ℕ) : sProp 𝕄 :=
  iprop((bigSep Finset.univ fun ck => cellInv EX (sched m) (K ck) (kcell ck)) ∗ bigSep Finset.univ fun ck => reached EX (kcell ck) 0)

instance records_persistent (K : Dev nD × Option (Fin 6) → ℕ) : BI.Persistent (records m K) := by unfold records; infer_instance

omit [FloatOps F] in
theorem inv_at (K : Dev nD × Option (Fin 6) → ℕ) (ck : Dev nD × Option (Fin 6)) :
    records m K ⊢ cellInv EX (sched m) (K ck) (kcell ck) := by
  unfold records
  exact sep_elim_left.trans (bigSep_elim (Finset.mem_univ ck))
omit [FloatOps F] in
theorem reached_at (K : Dev nD × Option (Fin 6) → ℕ) (ck : Dev nD × Option (Fin 6)) : records m K ⊢ reached EX (kcell ck) 0 := by
  unfold records
  exact sep_elim_right.trans (bigSep_elim (Finset.mem_univ ck))

/-- The duties device `c` pays towards peer number `e`: its barrier unit, its transfer's arrival, its transfer's read. -/
def payToks (c : Dev nD) (e : Fin 3) : sProp 𝕄 :=
  iprop(dutyTok EX (barCell (peer c e)) 0 e ∗ dutyTok EX (recvCell (peer c e) e) 0 0 ∗ dutyTok EX (sendCell c e) 0 0)
/-- Device `c`'s own: its place at its seven semaphores, and the duties it pays. -/
def linear (c : Dev nD) : sProp 𝕄 :=
  iprop((bigSep Finset.univ fun k => atPos EX (kcell (c, k)) 0 ∅ 0) ∗ bigSep Finset.univ fun e => payToks c e)
/-- The credits device `c` waits with: its barrier's three units, its three arrivals. -/
def credits (c : Dev nD) : sProp 𝕄 :=
  iprop(cred (tallyAt (barCell c) () 3) ∗ bigSep Finset.univ fun e => cred (tallyAt (recvCell c e) () N))

/-- Before the kernel's body, -/
def Φ₀ (c : Dev nD) : sProp 𝕄 := iprop((∃ K, records m K ∗ linear c) ∗ credits c ∗ levAts L lv)
/-- and after it: the seven semaphores at zero. -/
def Φ₁ (c : Dev nD) : sProp 𝕄 := bigSep Finset.univ fun k => semVal (kcell (c, k)) 0

theorem one_point : cfg0.N = 1 := by decide
def t₀ : Fin cfg0.N := ⟨0, by rw [one_point]; decide⟩
theorem fin_N (t : Fin cfg0.N) : t = t₀ := by
  obtain ⟨t, ht⟩ := t; have := one_point; exact Fin.ext (by simp only [t₀]; omega)

/-- The staged run's data: the arrays, what the two staging buffers hold after the body, what is held around it. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => outAt m c
  Φ t := match t with
    | ⟨0, _⟩ => Φ₀ m c
    | ⟨_ + 1, _⟩ => Φ₁ c
  q _ := fullShare
  owed t := match t with
    | ⟨0, _⟩ => owesAll c
    | ⟨_ + 1, _⟩ => 0

abbrev 𝒱₀ : Variants := Variants.none

end Cert.AllToAll

end
-- ==== Proof.Steps.lean ====
/-
  One theorem for each kind of step a device takes in the protocol, for any of its three peers: give a peer its block of
  rows and its barrier unit; pass the barrier; send a peer its block; wait until a block has been read; wait until a
  block has arrived. And the two staging buffers cut into their blocks and put together again.
-/
module

public import proofs.«01_k».proof.Proof.Protocol

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Device `c` owes `O`, whatever it has waited for so far. -/
def Owe (c : Dev nD) (O : CellTallies nD τ sig Unit) : sProp 𝕄 := iprop(∃ W, owes (c : Thread nD τ) O W)

section Rules

variable (K : Dev nD × Option (Fin 6) → ℕ)
variable (c : Dev nD) (e : Fin 3)

/-- A barrier unit to peer number `e`, with the block of rows that peer is to fill. -/
theorem step_signal {α : Type} {Q : α → sProp 𝕄} {k : PUnit → Prog (TpuEff nD τ sig (Elt F) Λ₀ .tc) α}
    {n : Dev nD} (hn : n = peer c e) {k' : ℕ} (hk : 1 = k') (O : CellTallies nD τ sig Unit) (f) :
    iprop(records m K ∗ Owe c (O + dueBar c e) ∗ dutyTok EX (barCell (peer c e)) 0 e ∗ oPts c (posAfter c e) f)
      ⊢ iprop((Owe c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hk
  unfold Owe
  iintro ⟨#HR, ⟨%W, HO⟩, Ht, Hb⟩ Hk
  iapply (Rounds.wp_signal 𝒱₀ EX (sched m) (c : Thread nD τ) none (dst := (peer c e : Thread nD τ)) (sem := barS) (r := 0) (κ := K (peer c e, none))
      (d := e) (by rw [duties_bar]; exact Finset.mem_univ _) rfl () O rfl (W := W)) $$ [HO Ht Hb]
  · isplitr; · iapply (inv_at m K (peer c e, none)); iexact HR
    isplitl [HO]; · iexact HO
    isplitl [Ht]; · iexact Ht
    isplitl [Hb]
    · rw [payload_bar]; unfold barPay; rw [peer_rev, pos_peer]
      isplitl [Hb]; · iexists f; iexact Hb
      iapply (reached_at m K (c, rIx e.rev)); iexact HR
    · iapply (reached_at m K (peer c e, none)); iexact HR
  iintro HO
  iapply Hk
  iexists W; iexact HO

/-- What the barrier gives: at each peer, the block of rows for `c`. -/
def opened (c : Dev nD) (e : Fin 3) : sProp 𝕄 := iprop(∃ f, oPts (peer c e) (pos c) f)

omit [FloatOps F] in
theorem opened_of_pay : (barPay (F := F) c e.rev) ⊢ opened c e := by
  unfold barPay opened
  rw [Fin.rev_rev]
  iintro ⟨H, -⟩
  iexact H

/-- The barrier passed: all three peers have given their blocks of rows, and the semaphore is at zero for good. -/
theorem step_barrier {α : Type} {Q : α → sProp 𝕄} {k : PUnit → Prog (TpuEff nD τ sig (Elt F) Λ₀ .tc) α}
    {w : TpuEff nD τ sig (Elt F) Λ₀ .tc PUnit} {k' : ℕ} (hk : k' = 3)
    (hw : ∀ P : PUnit → sProp 𝕄, wpE (defs₀ (F := F)) 𝒱₀ (c : Thread nD τ) none Set.univ w P
      = waitSpec (c : Thread nD τ) Set.univ (.reg barS) k' P) :
    iprop(records m K ∗ levAts L lv ∗ Owe c (owesSends c) ∗ cred (tallyAt (barCell c) () 3) ∗ atPos EX (barCell c) 0 ∅ 0)
      ⊢ iprop(((Owe c (owesSends c) ∗ semVal (barCell c) 0 ∗ opened c 0 ∗ opened c 1 ∗ opened c 2)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hk
  unfold Owe
  iintro ⟨#HR, #Hlev, ⟨%W, HO⟩, Hc, Hat⟩ Hk
  iapply (Rounds.wp_wait_rest_token 𝒱₀ EX (sched m) (c : Thread nD τ) none (κ := K (c, none)) hw (Set.mem_univ _) ()
      (O := owesSends c) (W := W) (R := 0) (m := 0) (T := ∅) (by rw [expect_bar])) $$ [Hc HO Hat]
  · isplitr; · iapply (inv_at m K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨H0, H1, H2⟩
  ihave H0 := (show (barPay (F := F) c 2) ⊢ opened c 0 from opened_of_pay c 0) $$ H0
  ihave H1 := (show (barPay (F := F) c 1) ⊢ opened c 1 from opened_of_pay c 1) $$ H1
  ihave H2 := (show (barPay (F := F) c 0) ⊢ opened c 2 from opened_of_pay c 2) $$ H2
  imod (Rounds.cell_close EX (sched m) (Set.mem_univ (K (c, none))) (fun h => h) (R := 0 + 1) (duties_later m (barCell c))) $$ [Hat] with Hz
  · isplitr; · iapply (inv_at m K (c, none)); iexact HR
    iexact Hat
  iapply Hk
  isplitl [HO]; · iexists _; iexact HO
  isplitl [Hz]; · iexact Hz
  isplitl [H0]; · iexact H0
  isplitl [H1] <;> iassumption

/-- The transfer of a block to peer number `e`: the source block and the peer's block of rows go, and come back by the
    send and by the peer's receive semaphore. -/
theorem step_send {α : Type} {Q : α → sProp 𝕄} {k : PUnit → Prog (TpuEff nD τ sig (Elt F) Λ₀ .tc) α}
    {n : Dev nD} (hn : n = peer c e) {offs offd : Fin 2 → ℕ} {inbs inbd} {s r : DmaSem sig}
    (hoffs : offs = ![0, 512 * (posAfter c e).val]) (hoffd : offd = ![1024 * (pos c).val, 0]) (hs : s = sendS e) (hr : r = recvS e)
    {hsc} {hsrc hdst hsem} (O : CellTallies nD τ sig Unit) :
    iprop(records m K ∗ Owe c (O + dueRecv c e) ∗ xPts m c (posAfter c e) ∗ opened c e
        ∗ dutyTok EX (sendCell c e) 0 0 ∗ dutyTok EX (recvCell (peer c e) e) 0 0)
      ⊢ iprop(((cred (tallyAt (sendCell c e) () N) ∗ Owe c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM.slice (Rect.unit (s := S1024x2048) offs S1024x512.size inbs) (fun _ => rfl))
                (.remote (Dev.tc n : Thread nD τ) (oM.slice (Rect.unit (s := S4096x512) offd S1024x512.size inbd) (fun _ => rfl)) (.dma s) hsc)
                (.dma r) hsrc hdst hsem) k) Q) := by
  subst hn; subst hoffs; subst hoffd; subst hs; subst hr
  unfold Owe opened
  iintro ⟨#HR, ⟨%W, HO⟩, Hx, ⟨%f, Hb⟩, HtS, HtR⟩ Hk
  unfold xPts oPts
  iapply (Rounds.wp_send_pointsTo 𝒱₀ EX (sched m) (c : Thread nD τ) none (κ₁ := K (c, sIx e)) (κ₂ := K (peer c e, rIx e))
    (r₁ := 0) (r₂ := 0) (d₁ := 0) (d₂ := 0) (fd := f)
    (by rw [duties_dma]; exact Finset.mem_singleton_self _) (by rw [duties_dma]; exact Finset.mem_singleton_self _)
    () () N rfl rfl rfl O rfl (W := W)
    (by rw [payload_send]; unfold sendPay xPts; exact BI.Entails.refl _)
    (by
      rw [payload_recv]; unfold recvPay oPts; rw [peer_rev]
      refine Entails.of_eq (pointsTo_congr ?_)
      have h := moved m c (peer c e) (dev_peer_pos c e) f
      rw [pos_peer] at h
      exact h)) $$ [HO Hx Hb HtS HtR]
  · isplitr; · iapply (inv_at m K (c, sIx e)); iexact HR
    isplitr; · iapply (inv_at m K (peer c e, rIx e)); iexact HR
    isplitl [Hx]; · iexact Hx
    isplitl [Hb]; · iexact Hb
    isplitl [HO]; · iexact HO
    isplitl [HtS]; · iexact HtS
    isplitr; · iapply (reached_at m K (c, sIx e)); iexact HR
    isplitl [HtR]; · iexact HtR
    iapply (reached_at m K (peer c e, rIx e)); iexact HR
  iintro ⟨Hc, HO⟩
  iapply Hk
  isplitl [Hc]; · iexact Hc
  iexists W; iexact HO

/-- Waiting on a transfer semaphore with nothing owed: the round's payload, and the semaphore at zero for good. -/
theorem step_wait {α : Type} {Q : α → sProp 𝕄} {k : PUnit → Prog (TpuEff nD τ sig (Elt F) Λ₀ .tc) α}
    {q : Fin 6} {P : sProp 𝕄}
    (hP : bigSep ((sched (F := F) m).duties (kcell (c, some q)) 0 \ ∅) (fun d => (sched (F := F) m).payload (kcell (c, some q)) 0 d) = P)
    {w : TpuEff nD τ sig (Elt F) Λ₀ .tc PUnit} {s : DmaSem sig} {k' : ℕ}
    (hw : ∀ P : PUnit → sProp 𝕄, wpE (defs₀ (F := F)) 𝒱₀ (c : Thread nD τ) none Set.univ w P
      = waitSpec (c : Thread nD τ) Set.univ (.dma s) k' P) (hs : s = ownS q) (hk : k' = N) :
    iprop(records m K ∗ Owe c 0 ∗ cred (tallyAt (kcell (c, some q)) () N) ∗ atPos EX (kcell (c, some q)) 0 ∅ 0)
      ⊢ iprop(((Owe c 0 ∗ semVal (kcell (c, some q)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hs; subst hk; subst hP
  unfold Owe
  iintro ⟨#HR, ⟨%W, HO⟩, Hc, Hat⟩ Hk
  iapply (Rounds.wp_wait_rest_token 𝒱₀ EX (sched m) (c : Thread nD τ) none (κ := K (c, some q)) hw (Set.mem_univ _) ()
      (O := 0) (W := W) (R := 0) (m := 0) (T := ∅) (by rw [Nat.zero_add, expect_dma])) $$ [Hc HO Hat]
  · isplitr; · iapply (inv_at m K (c, some q)); iexact HR
    isplitl [Hc]; · iexact Hc
    isplitl [HO]; · iexact HO
    isplitr; · rw [MayWait_zero]; iempintro
    iexact Hat
  iintro ⟨HO, Hat, -, Hpay⟩
  imod (Rounds.cell_close EX (sched m) (Set.mem_univ (K (c, some q))) (fun h => h) (R := 0 + 1) (duties_later m (kcell (c, some q)))) $$ [Hat] with Hz
  · isplitr; · iapply (inv_at m K (c, some q)); iexact HR
    iexact Hat
  iapply Hk
  isplitl [HO]; · iexists _; iexact HO
  isplitl [Hz]; · iexact Hz
  iexact Hpay

/-- The local copy, from the device's own block of columns to its own block of rows: the load, -/
theorem step_load {α : Type} {Q : α → sProp 𝕄} {k : Vec F S1024x512 .bf16 → Prog (TpuEff nD τ sig (Elt F) Λ₀ .tc) α}
    {off : Fin 2 → ℕ} {inb} (hoff : off = ![0, 512 * (pos c).val]) {hl} :
    xPts m c (pos c)
      ⊢ iprop((xPts m c (pos c) -∗ wp frame (wpE (defs₀ (F := F)) 𝒱₀ (c : Thread nD τ) none) Set.univ
            (k ((colB (pos c)).view.read (Elt F) (xAt m c))) Q)
          -∗ wp frame (wpE (defs₀ (F := F)) 𝒱₀ (c : Thread nD τ) none) Set.univ
              (.op (.load xM (Rect.unit (s := S1024x2048) off S1024x512.size inb).toLoadRect hl) k) Q) := by
  subst hoff
  unfold xPts
  exact wp_load_rect 𝒱₀ (c : Thread nD τ) none Set.univ (m := xM) (r := colR (pos c)) (Finset.Subset.refl _)

/-- a load of what the block of rows held before, which nothing uses, -/
theorem step_load_old {α : Type} {Q : α → sProp 𝕄} {k : Vec F S1024x512 .bf16 → Prog (TpuEff nD τ sig (Elt F) Λ₀ .tc) α}
    {off : Fin 2 → ℕ} {inb} (hoff : off = ![1024 * (pos c).val, 0]) {hl} (f) :
    oPts c (pos c) f
      ⊢ iprop((oPts c (pos c) f -∗ wp frame (wpE (defs₀ (F := F)) 𝒱₀ (c : Thread nD τ) none) Set.univ
            (k ((rowB (pos c)).view.read (Elt F) f)) Q)
          -∗ wp frame (wpE (defs₀ (F := F)) 𝒱₀ (c : Thread nD τ) none) Set.univ
              (.op (.load oM (Rect.unit (s := S4096x512) off S1024x512.size inb).toLoadRect hl) k) Q) := by
  subst hoff
  unfold oPts
  exact wp_load_rect 𝒱₀ (c : Thread nD τ) none Set.univ (m := oM) (r := rowR (pos c)) (Finset.Subset.refl _)

/-- and the store, which leaves there what the result is to hold. -/
theorem step_store {α : Type} {Q : α → sProp 𝕄} {k : PUnit → Prog (TpuEff nD τ sig (Elt F) Λ₀ .tc) α}
    {off : Fin 2 → ℕ} {inb} (hoff : off = ![1024 * (pos c).val, 0]) {hx hm} (f) :
    oPts c (pos c) f
      ⊢ iprop((oPts c (pos c) (outAt m c) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S4096x512) off S1024x512.size inb)
                (k0_pay1 ((colB (pos c)).view.read (Elt F) (xAt m c))) Finset.univ hx hm) k) Q) := by
  subst hoff
  rw [stored_eq]
  have hw : (oPts c (pos c) ((rowB (pos c)).view.write (Elt F) f ((colB (pos c)).view.read (Elt F) (xAt m c)) Finset.univ) : sProp 𝕄)
      = oPts c (pos c) (outAt m c) := by
    unfold oPts
    exact pointsTo_congr (moved m c c (dev_pos c) f)
  rw [← hw]
  unfold oPts
  exact wp_store 𝒱₀ (c : Thread nD τ) none Set.univ (m := oM) (r := rowR (pos c)) (Mk := Finset.univ)
    (by rw [View.setOn_univ])

end Rules

/-! ## The staging buffers in blocks -/

omit [FloatOps F] in
/-- `x`'s staging buffer is its four blocks of columns: the device's own, then the three for its peers. -/
theorem x_blocks (c : Dev nD) :
    (((c : Thread nD τ).loc cc0_stg0_0) ↦{fullShare} xAt m c : sProp 𝕄)
      = iprop(xPts m c (pos c) ∗ xPts m c (posAfter c 0) ∗ xPts m c (posAfter c 1) ∗ xPts m c (posAfter c 2)) := by
  have h := pointsTo_biUnion (Ix := Unit) (Name := ℕ) (U := UU) (Lvl := ℕ) (ℓ := (c : Thread nD τ).loc cc0_stg0_0) (q := fullShare) (f := xAt m c)
    (Finset.univ : Finset (Fin 4)) colSet fun k _ k' _ h => col_disjoint k k' h
  rw [col_cover] at h
  exact h.trans <| bigSep_univ_eq_bigSepL [pos c, posAfter c 0, posAfter c 1, posAfter c 2] (Finset.eq_univ_iff_forall.mpr fun k => List.mem_toFinset.mpr (blocks_all c k)).symm (blocks_nodup c) _

omit [FloatOps F] in
/-- The result's staging buffer is its four blocks of rows. -/
theorem o_blocks (c : Dev nD) (f : (cc0_stg1_0 : Ref sig .tc).ty.Contents (Elt F)) :
    (((c : Thread nD τ).loc cc0_stg1_0) ↦{fullShare} f : sProp 𝕄)
      = iprop(oPts c (pos c) f ∗ oPts c (posAfter c 0) f ∗ oPts c (posAfter c 1) f ∗ oPts c (posAfter c 2) f) := by
  have h := pointsTo_biUnion (Ix := Unit) (Name := ℕ) (U := UU) (Lvl := ℕ) (ℓ := (c : Thread nD τ).loc cc0_stg1_0) (q := fullShare) (f := f)
    (Finset.univ : Finset (Fin 4)) rowSet fun k _ k' _ h => row_disjoint k k' h
  rw [row_cover] at h
  exact h.trans <| bigSep_univ_eq_bigSepL [pos c, posAfter c 0, posAfter c 1, posAfter c 2] (Finset.eq_univ_iff_forall.mpr fun k => List.mem_toFinset.mpr (blocks_all c k)).symm (blocks_nodup c) _

end Cert.AllToAll

end
-- ==== Proof.Body.lean ====
/-
  The kernel's body on one device, step by step in program order: from the two staging buffers and the device's part of
  the protocol, to the result's staging buffer filled and every semaphore at zero.
-/
module

public import proofs.«01_k».proof.Proof.Steps

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- Owning a whole buffer at contents `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetched (t : Fin cfg0.N) : (cfg0.win (0 : Fin 2)).fetch t = true := by rw [fin_N t]; rfl

/-- The whole buffer `b` of device `c`, at contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the body and after it. -/
def bodyPre (c : Dev nD) : sProp 𝕄 :=
  iprop(Φ₀ m c ∗ (dats m 0 c).owesAt () t₀.castSucc
    ∗ (∃ d, staged c cc0_stg0_0 ((dats m 0 c).before (0 : Fin 2) t₀ d))
    ∗ (∃ d, staged c cc0_stg1_0 ((dats m 0 c).before (1 : Fin 2) t₀ d)))
def bodyPost (c : Dev nD) : sProp 𝕄 :=
  iprop(Φ₁ c ∗ (dats m 0 c).owesAt () t₀.succ ∗ staged c cc0_stg0_0 (xAt m c) ∗ staged c cc0_stg1_0 (outAt m c))

omit [FloatOps F] in
theorem opened_back (c : Dev nD) (e : Fin 3) : recvPay m c e = oPts c (posAfter c e.rev) (outAt m c) := by
  unfold recvPay
  rw [show pos (peer c e.rev) = posAfter c e.rev from pos_peer c e.rev]

set_option maxRecDepth 8000 in
set_option maxHeartbeats 1600000 in
/-- The body, one theorem of `Steps` for each of its operations. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre Φ₀ linear credits
  rw [bigSep_cells, bigSep_three, bigSep_three]
  unfold payToks
  iintro ⟨⟨⟨⟨%K, #HR, ⟨HaB, HaS0, HaS1, HaS2, HaR0, HaR1, HaR2⟩, ⟨HtB0, HtR0, HtS0⟩, ⟨HtB1, HtR1, HtS1⟩, ⟨HtB2, HtR2, HtS2⟩⟩,
      ⟨HcB, HcR0, HcR1, HcR2⟩, #Hlev⟩, Ho, ⟨%d0, %g0, %hg0, Hx⟩, ⟨%d1, %g1, %hg1, Hout⟩⟩, Hk⟩
  have hx : g0 = xAt m c := by rw [hg0]; unfold Dat.before; rw [if_pos (fetched t₀)]; rfl
  subst hx
  ihave Hx := (Entails.of_eq (x_blocks m c)) $$ Hx
  icases Hx with ⟨HxO, Hx0, Hx1, Hx2⟩
  ihave Hout := (Entails.of_eq (o_blocks c g1)) $$ Hout
  icases Hout with ⟨HoO, Ho0, Ho1, Ho2⟩
  unfold Dat.owesAt Pipeline.owesWithin
  icases Ho with ⟨%W, %hW, HO⟩
  rw [show (dats m 0 c).owed t₀.castSucc = owesAll c from rfl]
  unfold owesAll
  ihave HO := (show owes (c : Thread nD τ) (owesSends c + dueBar c 2 + dueBar c 1 + dueBar c 0) W
    ⊢ (Owe c (owesSends c + dueBar c 2 + dueBar c 1 + dueBar c 0) : sProp 𝕄) from by unfold Owe; iintro H; iexists W; iexact H) $$ HO
  -- a barrier unit, with a block of rows, to each peer
  iapply (step_signal m K c 0 (signal0_eq c) (by decide) (owesSends c + dueBar c 2 + dueBar c 1) g1) $$ [HO HtB0 Ho0]
  · isplitr; · iexact HR
    isplitl [HO]; · iexact HO
    isplitl [HtB0] <;> iassumption
  iintro HO
  iapply (step_signal m K c 1 (signal1_eq c) (by decide) (owesSends c + dueBar c 2) g1) $$ [HO HtB1 Ho1]
  · isplitr; · iexact HR
    isplitl [HO]; · iexact HO
    isplitl [HtB1] <;> iassumption
  iintro HO
  iapply (step_signal m K c 2 (signal2_eq c) (by decide) (owesSends c) g1) $$ [HO HtB2 Ho2]
  · isplitr; · iexact HR
    isplitl [HO]; · iexact HO
    isplitl [HtB2] <;> iassumption
  iintro HO
  -- the barrier
  iapply (step_barrier m K c (by decide) (wpE_semWait_eq 𝒱₀ (c : Thread nD τ) none Set.univ)) $$ [HO HcB HaB]
  · isplitr; · iexact HR
    isplitr; · iexact Hlev
    isplitl [HO]; · iexact HO
    isplitl [HcB] <;> iassumption
  iintro ⟨HO, HzB, Hp0, Hp1, Hp2⟩
  unfold owesSends
  -- the three transfers
  iapply (step_send m K c 0 (send0_eq c) (off2_eq c 0) (off1_eq c) (by rfl) (by rfl) (0 + dueRecv c 2 + dueRecv c 1)) $$ [HO Hx0 Hp0 HtS0 HtR0]
  · isplitr; · iexact HR
    isplitl [HO]; · iexact HO
    isplitl [Hx0]; · iexact Hx0
    isplitl [Hp0]; · iexact Hp0
    isplitl [HtS0] <;> iassumption
  iintro ⟨HcS0, HO⟩
  iapply (step_send m K c 1 (send1_eq c) (off2_eq c 1) (off1_eq c) (by rfl) (by rfl) (0 + dueRecv c 2)) $$ [HO Hx1 Hp1 HtS1 HtR1]
  · isplitr; · iexact HR
    isplitl [HO]; · iexact HO
    isplitl [Hx1]; · iexact Hx1
    isplitl [Hp1]; · iexact Hp1
    isplitl [HtS1] <;> iassumption
  iintro ⟨HcS1, HO⟩
  iapply (step_send m K c 2 (send2_eq c) (off2_eq c 2) (off1_eq c) (by rfl) (by rfl) 0) $$ [HO Hx2 Hp2 HtS2 HtR2]
  · isplitr; · iexact HR
    isplitl [HO]; · iexact HO
    isplitl [Hx2]; · iexact Hx2
    isplitl [Hp2]; · iexact Hp2
    isplitl [HtS2] <;> iassumption
  iintro ⟨HcS2, HO⟩
  -- the local copy
  iapply (step_load m c (off3_eq c)) $$ HxO; iintro HxO
  iapply (step_load_old c (off4_eq c) g1) $$ HoO; iintro HoO
  iapply (step_store m c (off4_eq c) g1) $$ HoO; iintro HoO
  -- the six waits
  iapply (step_wait m K c (rest_send m c 0) (wpE_waitDma2_eq 𝒱₀ (c : Thread nD τ) none Set.univ) (by rfl) (by rfl)) $$ [HO HcS0 HaS0]
  · isplitr; · iexact HR
    isplitl [HO]; · iexact HO
    isplitl [HcS0] <;> iassumption
  iintro ⟨HO, HzS0, Hx0⟩
  iapply (step_wait m K c (rest_recv m c 0) (wpE_waitDma2_eq 𝒱₀ (c : Thread nD τ) none Set.univ) (by rfl) (by rfl)) $$ [HO HcR0 HaR0]
  · isplitr; · iexact HR
    isplitl [HO]; · iexact HO
    isplitl [HcR0] <;> iassumption
  iintro ⟨HO, HzR0, Ho2⟩
  iapply (step_wait m K c (rest_send m c 1) (wpE_waitDma2_eq 𝒱₀ (c : Thread nD τ) none Set.univ) (by rfl) (by rfl)) $$ [HO HcS1 HaS1]
  · isplitr; · iexact HR
    isplitl [HO]; · iexact HO
    isplitl [HcS1] <;> iassumption
  iintro ⟨HO, HzS1, Hx1⟩
  iapply (step_wait m K c (rest_recv m c 1) (wpE_waitDma2_eq 𝒱₀ (c : Thread nD τ) none Set.univ) (by rfl) (by rfl)) $$ [HO HcR1 HaR1]
  · isplitr; · iexact HR
    isplitl [HO]; · iexact HO
    isplitl [HcR1] <;> iassumption
  iintro ⟨HO, HzR1, Ho1⟩
  iapply (step_wait m K c (rest_send m c 2) (wpE_waitDma2_eq 𝒱₀ (c : Thread nD τ) none Set.univ) (by rfl) (by rfl)) $$ [HO HcS2 HaS2]
  · isplitr; · iexact HR
    isplitl [HO]; · iexact HO
    isplitl [HcS2] <;> iassumption
  iintro ⟨HO, HzS2, Hx2⟩
  iapply (step_wait m K c (rest_recv m c 2) (wpE_waitDma2_eq 𝒱₀ (c : Thread nD τ) none Set.univ) (by rfl) (by rfl)) $$ [HO HcR2 HaR2]
  · isplitr; · iexact HR
    isplitl [HO]; · iexact HO
    isplitl [HcR2] <;> iassumption
  iintro ⟨HO, HzR2, Ho0⟩
  rw [wp_ret]; imodintro
  -- everything back in place
  iapply Hk
  unfold bodyPost Φ₁
  rw [bigSep_cells]
  isplitl [HzB HzS0 HzS1 HzS2 HzR0 HzR1 HzR2]
  · isplitl [HzB]; · iexact HzB
    isplitl [HzS0]; · iexact HzS0
    isplitl [HzS1]; · iexact HzS1
    isplitl [HzS2]; · iexact HzS2
    isplitl [HzR0]; · iexact HzR0
    isplitl [HzR1] <;> iassumption
  isplitl [HO]
  · unfold Dat.owesAt Pipeline.owesWithin Owe
    rw [show (dats m 0 c).owed t₀.succ = 0 from rfl]
    icases HO with ⟨%W', HO⟩
    iexists W'
    isplitr; · ipureintro; exact fun _ _ => Or.inl trivial
    iexact HO
  isplitl [HxO Hx0 Hx1 Hx2]
  · iexists (xAt m c); isplitr; · (ipureintro; rfl)
    iapply (Entails.of_eq (x_blocks m c).symm)
    unfold sendPay
    isplitl [HxO]; · iexact HxO
    isplitl [Hx0]; · iexact Hx0
    isplitl [Hx1] <;> iassumption
  · iexists (outAt m c); isplitr; · (ipureintro; rfl)
    iapply (Entails.of_eq (o_blocks c (outAt m c)).symm)
    isplitl [HoO]; · iexact HoO
    isplitl [Ho0]; · iapply (Entails.of_eq (opened_back m c 2)); iexact Ho0
    isplitl [Ho1]; · iapply (Entails.of_eq (opened_back m c 1)); iexact Ho1
    iapply (Entails.of_eq (opened_back m c 0)); iexact Ho2

set_option maxRecDepth 8000 in
/-- The staged run's obligation for the body. -/
theorem body_obligation (c : Dev nD) : BodyObligation (dats (F := F) m 0 c) (defs₀ (F := F)) 𝒱₀ () Set.univ := fun t => by
  rw [fin_N t]
  rw [bigSep_W0, bigSep_W0]
  simp only [owns_whole]
  show bodyPre m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m c)
  iintro H
  iapply (sound_body m c fun _ => bodyPost m c)
  isplitl [H]; · iexact H
  iintro H; iexact H

end Cert.AllToAll

end
-- ==== Proof.Run.lean ====
/-
  All sixteen devices together: the protocol's ghost state is made and dealt out, the launch credits are matched with what
  is owed, and the whole run is put together from the devices' bodies.
-/
module

public import proofs.«01_k».proof.Proof.Body
public import Idealize.ShloMosaic.Lib.Pipeline.CollectiveSegs

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

theorem ownSemFacts : Pipeline.OwnSemFacts cfg0.spec osem := by decide
theorem share_eq (c : Dev nD) (w : Fin cfg0.W) : (dats m 0 c).share w = fullShare := by unfold Dat.share; split <;> rfl

/-! ## The semaphores and the duties, numbered -/

theorem csem_injective : Function.Injective csem := by decide
theorem kcell_injective : Function.Injective (kcell : Dev nD × Option (Fin 6) → GSem nD τ sig) := by
  rintro ⟨c, k⟩ ⟨c', k'⟩ h
  exact Prod.ext (congrArg (fun g : GSem nD τ sig => g.1.1) h) (csem_injective (congrArg Prod.snd h))
def allCells : Finset (GSem nD τ sig) := Finset.univ.map ⟨kcell, kcell_injective⟩

/-- The three kinds of duty towards a semaphore of device `c`, for peer number `e`: a barrier unit, an arrival, a read. -/
abbrev dutyAt (e : Fin 3) : Fin 3 → SemLoc sig × Fin 3
  | 0 => (.reg barS, e)
  | 1 => (.dma (recvS e), 0)
  | 2 => (.dma (sendS e), 0)
theorem dutyAt_injective : Function.Injective fun p : Fin 3 × Fin 3 => dutyAt p.1 p.2 := by decide
abbrev tokOf (p : Dev nD × Fin 3 × Fin 3) : GSem nD τ sig × ℕ × Fin 3 :=
  (((p.1 : Thread nD τ), (dutyAt p.2.1 p.2.2).1), 0, (dutyAt p.2.1 p.2.2).2)
theorem tokOf_injective : Function.Injective tokOf := by
  rintro ⟨c, p⟩ ⟨c', p'⟩ h
  refine Prod.ext (congrArg (fun x : GSem nD τ sig × ℕ × Fin 3 => x.1.1.1) h) (dutyAt_injective ?_)
  exact congrArg (fun x : GSem nD τ sig × ℕ × Fin 3 => (x.1.2, x.2.2)) h
def allToks : Finset (GSem nD τ sig × ℕ × Fin 3) := Finset.univ.map ⟨tokOf, tokOf_injective⟩

/-- The ghost state at launch: the staging's and the protocol's. -/
def u₀ : UU := (initOf (Pipeline.cells cfgs cellOf_inj) (Pipeline.launchToks cfgs cellOf_inj), initOf allCells allToks)

/-- The duties towards device `c`'s own semaphores for peer number `e`. -/
def toks (c : Dev nD) (e : Fin 3) : sProp 𝕄 :=
  iprop(dutyTok EX (barCell c) 0 e ∗ dutyTok EX (recvCell c e) 0 0 ∗ dutyTok EX (sendCell c e) 0 0)

/-- What each device is first dealt: its seven semaphores at round 0, and the duties towards them; -/
def G (c : Dev nD) : sProp 𝕄 :=
  iprop((bigSep Finset.univ fun k => roundState EX (sched m) (kcell (c, k)) 0)
    ∗ (bigSep Finset.univ fun k => iprop(atPos EX (kcell (c, k)) 0 ∅ 0 ∗ reached EX (kcell (c, k)) 0))
    ∗ bigSep Finset.univ fun e => toks c e)
/-- and what it starts with once these are exchanged. -/
def G' (c : Dev nD) : sProp 𝕄 := iprop(∃ K, records m K ∗ linear c)

omit [FloatOps F] in
/-- The launch's ghost state is every device's share. -/
theorem deal : BI.own (EX (initOf allCells allToks)) ⊢ (|==> bigSep Finset.univ (G m) : sProp 𝕄) := by
  have hX (Φ : GSem nD τ sig → sProp 𝕄) :
      bigSep allCells Φ = bigSep Finset.univ fun c : Dev nD => bigSep Finset.univ fun k => Φ (kcell (c, k)) := by
    unfold allCells; rw [bigSep_map, bigSep_univ_prod]; rfl
  have hT : bigSep allToks (fun x => (dutyTok EX x.1 x.2.1 x.2.2 : sProp 𝕄))
      = bigSep Finset.univ fun c : Dev nD => bigSep Finset.univ fun e => toks c e := by
    unfold allToks; rw [bigSep_map, bigSep_univ_prod]
    refine bigSep_congr fun c _ => (bigSep_univ_prod _).trans (bigSep_congr fun e _ => ?_)
    unfold toks; rw [bigSep_three]; rfl
  iintro HX
  imod (Rounds.fund EX (sched m) allCells allToks) $$ HX with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat] <;> iassumption
  iexact Htok

/-! ## The counters go into the invariants -/

omit [FloatOps F] in
/-- A device's counters, its own six and the barrier's, are those of the protocol; -/
theorem counters (c : Dev nD) :
    iprop(Pipeline.ownSems0 (Ix := Unit) (Name := ℕ) (U := UU) (Lvl := ℕ) (Val := Elt F) (τ := τ) osem c ∗ unscopedSems0 c)
      = (bigSep Finset.univ fun k => semVal (kcell (c, k)) 0 : sProp 𝕄) := by
  have ho : (Pipeline.ownSems0 (Ix := Unit) (Name := ℕ) (U := UU) (Lvl := ℕ) (Val := Elt F) (τ := τ) osem c : sProp 𝕄)
      = iprop(semVal (kcell (c, sIx 0)) 0 ∗ semVal (kcell (c, sIx 1)) 0 ∗ semVal (kcell (c, sIx 2)) 0
          ∗ semVal (kcell (c, rIx 0)) 0 ∗ semVal (kcell (c, rIx 1)) 0 ∗ semVal (kcell (c, rIx 2)) 0) := by
    rw [Pipeline.ownSems0_eq_of_list c osem [0, 1, 2, 3, 4, 5] (by decide) (by decide)]; rfl
  have hu : (unscopedSems0 c : sProp 𝕄) = semVal (barCell c) 0 := by
    unfold unscopedSems0; rw [bigSep_eq_bigSepL_of_eq [SemLoc.reg barS] (by decide) (by decide)]; rfl
  rw [ho, hu, bigSep_cells]
  exact BI.Entails.antisymm BI.sep_comm BI.sep_comm

omit [FloatOps F] in
/-- with the rounds they make the seven invariants. -/
theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0))
          ∗ bigSep Finset.univ fun e => toks c e) := by
  have hinv : iprop((bigSep Finset.univ fun k => semVal (kcell (c, k)) 0) ∗ bigSep Finset.univ fun k => roundState EX (sched m) (kcell (c, k)) 0)
      ⊢ (|={Set.univ}=> bigSep Finset.univ fun k => iprop(∃ κ : ℕ, cellInv EX (sched m) κ (kcell (c, k))) : sProp 𝕄) := by
    rw [← bigSep_sep']
    exact (bigSep_mono fun k _ => (Rounds.body_intro EX (sched m) (kcell (c, k))).trans inv_alloc).trans (bigSep_fupd _ _)
  unfold G
  iintro ⟨Hos, Hus, Hst, Hrest⟩
  ihave Hv := (Entails.of_eq (counters (F := F) c)) $$ [Hos Hus]
  · isplitl [Hos] <;> iassumption
  imod hinv $$ [Hv Hst] with Hinv
  · isplitl [Hv] <;> iassumption
  imodintro
  isplitl [Hinv] <;> iassumption

omit [FloatOps F] in
/-- The duties go to the devices that pay them: what is towards `c` for peer number `e` and not `c`'s own to the device
    that has `c` as its peer number `e`. -/
theorem exchange : (bigSep Finset.univ fun c : Dev nD => bigSep Finset.univ fun e => (toks c e : sProp 𝕄))
    = bigSep Finset.univ fun c : Dev nD => bigSep Finset.univ fun e => payToks c e := by
  have h (e : Fin 3) : (bigSep Finset.univ fun c : Dev nD => (toks c e : sProp 𝕄)) = bigSep Finset.univ fun c : Dev nD => payToks c e := by
    unfold toks payToks
    rw [bigSep_sep', bigSep_sep', bigSep_sep', bigSep_sep',
      bigSep_univ_equiv (peers e) (fun c : Dev nD => (dutyTok EX (barCell c) 0 e : sProp 𝕄)),
      bigSep_univ_equiv (peers e) (fun c : Dev nD => (dutyTok EX (recvCell c e) 0 0 : sProp 𝕄))]
    rfl
  simp only [bigSep_three, bigSep_sep', h]

omit [FloatOps F] in
/-- A persistent fact goes to every part. -/
theorem to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

omit [FloatOps F] in
theorem share_out :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0))
          ∗ bigSep Finset.univ fun e => toks c e) : sProp 𝕄)
      ⊢ bigSep Finset.univ (G' m) := by
  rw [bigSep_sep', bigSep_sep', exchange,
    ← bigSep_univ_prod (fun ck : Dev nD × Option (Fin 6) => iprop(∃ κ : ℕ, cellInv EX (sched m) κ (kcell ck))),
    bigSep_congr (s := Finset.univ) (fun (c : Dev nD) _ => bigSep_sep' Finset.univ
      (fun k : Option (Fin 6) => (atPos EX (kcell (c, k)) 0 ∅ 0 : sProp 𝕄)) (fun k => reached EX (kcell (c, k)) 0)),
    bigSep_sep', ← bigSep_univ_prod (fun ck : Dev nD × Option (Fin 6) => (reached EX (kcell ck) 0 : sProp 𝕄))]
  iintro ⟨HI, ⟨Hat, #HR⟩, Htok⟩
  ihave HK := (BI.bigSep_exists_pi Finset.univ
    (fun (ck : Dev nD × Option (Fin 6)) (κ : ℕ) => (cellInv EX (sched m) κ (kcell ck) : sProp 𝕄))) $$ HI
  icases HK with ⟨%K, #HI⟩
  iapply (to_all (R := records m K) (Φ := fun c => linear c) fun c _ => by
    unfold G'
    iintro H
    iexists K; iexact H)
  isplitr
  · unfold records; isplitl; · iexact HI
    iexact HR
  · unfold linear
    rw [bigSep_sep']
    isplitl [Hat] <;> iassumption

omit [FloatOps F] in
theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => alloc m c).trans (bigSep_fupd _ _)).trans (BI.fupd_mono (share_out m))

/-! ## The launch credits -/

/-- What is owed to device `d`, by all. -/
def due (d : Dev nD) : CellTallies nD τ sig Unit :=
  0 + tallyAt (recvCell d 2) () N + tallyAt (recvCell d 1) () N + tallyAt (recvCell d 0) () N
    + tallyAt (barCell d) () 1 + tallyAt (barCell d) () 1 + tallyAt (barCell d) () 1

theorem due_sum : (∑ d, owesAll d) = ∑ d, due d := by
  have hr (e : Fin 3) : (∑ d, dueRecv d e) = ∑ d : Dev nD, tallyAt (recvCell d e) () N :=
    Equiv.sum_comp (peers e) fun d => (tallyAt (recvCell d e) () N : CellTallies nD τ sig Unit)
  have hb (e : Fin 3) : (∑ d, dueBar d e) = ∑ d : Dev nD, tallyAt (barCell d) () 1 :=
    Equiv.sum_comp (peers e) fun d => (tallyAt (barCell d) () 1 : CellTallies nD τ sig Unit)
  unfold owesAll owesSends due
  simp only [Finset.sum_add_distrib]
  rw [hr, hr, hr, hb, hb, hb]

theorem due_own (d : Dev nD) (g : GSem nD τ sig) (h : due d g ≠ 0) : g.1 = (d.tc : Thread nD τ) := by
  by_contra hn
  refine h ?_
  unfold due
  simp only [Pi.add_apply]
  rw [tallyAt_ne_cell (fun h' => hn (by rw [h'])), tallyAt_ne_cell (fun h' => hn (by rw [h'])), tallyAt_ne_cell (fun h' => hn (by rw [h'])),
    tallyAt_ne_cell (fun h' => hn (by rw [h']))]
  simp only [Pi.zero_apply, add_zero]

omit [FloatOps F] in
theorem credits_intro (c : Dev nD) : (Pipeline.launchCred owesAll c : sProp 𝕄) ⊢ credits c := by
  rw [Pipeline.launchCred_of_sum owesAll due due_sum due_own c]
  have hd : due c = tallyAt (barCell c) () 3 + (tallyAt (recvCell c 0) () N + (tallyAt (recvCell c 1) () N + tallyAt (recvCell c 2) () N)) := by
    rw [show (tallyAt (barCell c) () 3 : CellTallies nD τ sig Unit) = tallyAt (barCell c) () 1 + tallyAt (barCell c) () 1 + tallyAt (barCell c) () 1 from by
      rw [tallyAt_add, tallyAt_add]]
    unfold due
    abel
  rw [hd]
  unfold credits
  rw [bigSep_three]
  exact (cred_add _ _).1.trans (sep_mono_right ((cred_add _ _).1.trans (sep_mono_right (cred_add _ _).1)))

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred owesAll c ∗ prngReg c (ρ c) ∗ G' m c)
      ⊢ |={Set.univ}=> iprop(Φ₀ m c ∗ emp) := by
  iintro ⟨-, Hlev, Hcr, -, HG⟩
  ihave Hc := (credits_intro (F := F) c) $$ Hcr
  imodintro
  unfold Φ₀ G'
  isplitl
  · isplitl [HG]; · iexact HG
    isplitl [Hc]; · iexact Hc
    iexact Hlev
  · iempintro

theorem enter (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  iintro ⟨Hs, -, -⟩
  iexact Hs

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  iintro H
  ihave H := (Entails.of_eq (counters (F := F) c).symm) $$ H
  icases H with ⟨Hos, Hus⟩
  isplitl [Hus]; · iexact Hus
  isplitl [Hos]; · iexact Hos
  iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What array `w` of device `c` holds at the end. -/
def finalA (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters, every weakly fair run of the sixteen devices ends, each device's arrays hold
    `finalA`, and every counter is zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m)
    (hdistinct := winFacts0.arr_inj)
    (O₀ := owesAll) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := Φ₀ m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- `x` holds what it held; -/
theorem final_x (c : Dev nD) : finalA m c (0 : Fin 2) = m ((c : Thread nD τ).loc main_arg0) :=
  (dats (F := F) m 0 c).arrAt_in (0 : Fin 2) rfl _

theorem start_zero : (fun a => (win0_1.index t₀) a * S4096x512.size a) = fun _ => 0 := by funext a; fin_cases a <;> rfl

/-- the result holds `outAt`. -/
theorem final_o (c : Dev nD) : finalA m c (1 : Fin 2) = outAt m c := by
  unfold finalA
  have h1 : (win0_1.blk t₀).view.read (Elt F) ((dats m 0 c).arrAt (1 : Fin 2) cfg0.N) = outAt m c := by
    rw [show cfg0.N = t₀.val + 1 from rfl, (dats m 0 c).arrAt_succ (1 : Fin 2) t₀]
    rw [show (cfg0.win 1).flush t₀ = true from by decide, if_pos rfl]
    exact View.read_write_univ _ _
  rw [← h1]
  exact (Memref.read_access_unit_zero (Elt F) main_v1 start_zero _ _).symm

end Cert.AllToAll

end
-- ==== Proof.Value.lean ====
/-
  The equation: when every device starts with its block of rows of one array `v` [4096, 2048], every device's result is
  its block of columns of `v`. The all-to-all has turned an array cut by rows into the same array cut by columns.
-/
module

public import proofs.«01_k».proof.Proof.Mesh
public import Idealize.ShloMosaic.Lib.Layout

@[expose] public section

noncomputable section

namespace Cert.AllToAll

open Cert.KernelIdeal Cert.KernelIdeal.Gen
open Idealize.ShloMosaic
open Idealize.ShloMosaic.TcCoe

variable {F : FTy → Type} [FloatOps F]
variable (m : (ℓ : Loc nD τ sig) → Buf (Elt F) ℓ)

/-- What is fetched into the `x` staging buffer is the argument itself. -/
theorem xAt_eq (c : Dev nD) : xAt m c = m ((c : Thread nD τ).loc main_arg0) :=
  Memref.read_access_unit_zero (Elt F) main_arg0 (by funext a; fin_cases a <;> rfl) _ _

/-- A device's block, of an array cut along the mesh's third axis, is the one its position numbers. -/
theorem position (c : Dev nD) : Layout.meshLin [2, 2, 4] c.val [2] = (pos c).val := by revert c; decide

theorem pos_dev (c : Dev nD) (k : Fin 4) : (pos (dev c k)).val = k.val := by revert c k; decide

/-- Each device's result is its block of columns of the array whose blocks of rows the devices were given. -/
theorem transposed_blocks {α : Type} (x : Dev nD → S1024x2048.Idx → α) (v : (⟨2, ![4096, 2048]⟩ : Shape).Idx → α)
    (hx : ∀ c, x c = Layout.blockN ⟨2, ![1024, 2048]⟩ ⟨2, ![4096, 2048]⟩ (Layout.meshBlock [2, 2, 4] ![[2], []] c) v) (c : Dev nD) :
    (fun i : S4096x512.Idx => x (dev c (srcPos i)) (srcIdx c i))
      = Layout.blockN ⟨2, ![4096, 512]⟩ ⟨2, ![4096, 2048]⟩ (Layout.meshBlock [2, 2, 4] ![[], [2]] c) v := by
  funext i
  rw [hx, Layout.blockN_apply, Layout.blockN_apply]
  refine congrArg v (funext fun b => Fin.ext ?_)
  rw [Layout.TilesN.idx_val, Layout.TilesN.idx_val]
  have hr : (i 0).val < 4096 := (i 0).isLt
  fin_cases b
  · show Layout.meshLin [2, 2, 4] (dev c (srcPos i)).val [2] * 1024 + (i 0).val % 1024 = 0 * 4096 + (i 0).val
    rw [position, pos_dev]
    show (i 0).val / 1024 * 1024 + (i 0).val % 1024 = _
    omega
  · show 0 * 2048 + (512 * (pos c).val + (i 1).val) = Layout.meshLin [2, 2, 4] c.val [2] * 512 + (i 1).val
    rw [position]
    omega

/-- The same of what the kernel's result buffers end as. -/
theorem outAt_eq (v : (⟨2, ![4096, 2048]⟩ : Shape).Idx → Elt F .bf16)
    (hx : ∀ c : Dev nD, m ((c.tc : Thread nD τ).loc main_arg0)
      = Layout.blockN ⟨2, ![1024, 2048]⟩ ⟨2, ![4096, 2048]⟩ (Layout.meshBlock [2, 2, 4] ![[2], []] c) v) (c : Dev nD) :
    outAt m c = Layout.blockN ⟨2, ![4096, 512]⟩ ⟨2, ![4096, 2048]⟩ (Layout.meshBlock [2, 2, 4] ![[], [2]] c) v :=
  transposed_blocks (fun c => xAt m c) v (fun c => (xAt_eq m c).trans (hx c)) c

end Cert.AllToAll

end
-- ==== Proof.Same.lean ====
/-
  The kernel and its idealization are one program: the idealization rewrites no operation, so what is proved of one run
  is proved of the other, at any reading of the floats.
-/
module

public import proofs.«01_k».proof.Proof.Gen.Kernel
public import proofs.«01_k».proof.Proof.Gen.KernelIdeal

@[expose] public section

noncomputable section

namespace Cert.AllToAll

open Idealize.ShloMosaic Idealize.SL.Sem

variable (F : FTy → Type) [FloatOps F]

set_option maxRecDepth 8000 in
/-- The two programs' bodies agree, -/
theorem same_bodies : Cert.Kernel.defs₀ (F := F) = Cert.KernelIdeal.defs₀ (F := F) := by
  unfold Cert.Kernel.defs₀ Cert.KernelIdeal.defs₀
  refine congrArg (Defs.onTc (nD := 16)) (funext fun l => funext fun a => ?_)
  match l, a with
  | 0, (t, s) => rfl

set_option maxRecDepth 8000 in
/-- and their tables of bodies, -/
theorem same_defs : Cert.Kernel.defs (F := F) = Cert.KernelIdeal.defs (F := F) :=
  congrArg (Pipeline.defs Cert.KernelIdeal.pcfgs) (same_bodies F)

set_option maxRecDepth 8000 in
/-- so a run of one ends as a run of the other. -/
theorem same_run (m : (ℓ : Loc Cert.Kernel.nD Cert.Kernel.τ Cert.Kernel.sig) → Buf (Elt F) ℓ) (g : Dev Cert.Kernel.nD → PrngReg)
    (post : PUnit × MemSt Cert.Kernel.nD Cert.Kernel.τ Cert.Kernel.sig (Elt F) → Prop) :
    θ_run (Cert.KernelIdeal.defs (F := F)) (onTc (τ := Cert.KernelIdeal.τ) (Cert.KernelIdeal.main (F := F))) ⟨m, fun _ => 0, g⟩ post
      = θ_run (Cert.Kernel.defs (F := F)) (onTc (τ := Cert.Kernel.τ) (Cert.Kernel.main (F := F))) ⟨m, fun _ => 0, g⟩ post :=
  congrArg (fun d => θ_run d (onTc (τ := Cert.Kernel.τ) (Cert.Kernel.main (F := F))) ⟨m, fun _ => 0, g⟩ post) (same_defs F).symm

end Cert.AllToAll

end
-- ==== Proof.Ref.lean ====
/-
  The reference, on its one device: it returns its argument, which therefore is its result, and does nothing else.
-/
module

public import proofs.«01_k».proof.Proof.Gen.Reference
public import proofs.«01_k».proof.Proof.Gen.ReferenceIdeal
public import Idealize.ShloMosaic.Lib.StableHlo.Run
public import Idealize.ShloMosaic.Lib.Pipeline.Launch

@[expose] public section

noncomputable section

namespace Cert.AllToAll.Ref

open Idealize.ShloMosaic Idealize.ShloMosaic.TcCoe Idealize.ShloMosaic.StableHlo Idealize.SL.Sem

variable {F : FTy → Type} [FloatOps F]

section
open Cert.Reference Cert.Reference.Gen

/-- From any memory, every run of the reference ends, its argument holds what it held, and every counter is zero. -/
theorem run_reference (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) defs main (fun _ => []) (fun _ => rfl) (fun _ => trivial) m ρ)

end

section
open Cert.ReferenceIdeal Cert.ReferenceIdeal.Gen

/-- The same of the reference as it is read at the ideal floats. -/
theorem run_referenceIdeal (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) defs main (fun _ => []) (fun _ => rfl) (fun _ => trivial) m ρ)

end

end Cert.AllToAll.Ref

end
-- ==== Proof.lean ====
/-
  The claims: the kernel and the reference run and end with their arguments unchanged and every counter at zero; every
  result of the kernel is its block of columns of the reference's result, exactly, both at the ideal floats and bit for bit.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Run
public import proofs.«01_k».proof.Proof.Value
public import proofs.«01_k».proof.Proof.Same
public import proofs.«01_k».proof.Proof.Ref
public import Idealize.ShloMosaic.Adequacy
public import Idealize.ShloMosaic.Init

@[expose] public section

noncomputable section

namespace Cert.Proof

open Idealize.ShloMosaic Idealize.SL.Sem Cert.AllToAll

section
open Cert.KernelIdeal Cert.KernelIdeal.Gen

variable {F : FTy → Type} [FloatOps F] (m : (ℓ : Loc nD τ sig) → Buf (Elt F) ℓ) (g : Dev nD → PrngReg)

/-- Every run of the kernel ends, its arguments unchanged and every counter at zero. -/
theorem kernel_frame : θ_run (defs (F := F)) (onTc (τ := τ) (main (F := F))) ⟨m, fun _ => 0, g⟩ fun r =>
    (∀ c : Dev nD, r.2.mem ((c.tc : Thread nD τ).loc main_arg0) = m ((c.tc : Thread nD τ).loc main_arg0)) ∧ r.2.sem = fun _ => 0 :=
  (θ_run defs _ _).mono (fun _ h => ⟨fun c => (h.1 c (0 : Fin 2)).trans (final_x m c), h.2⟩) (run_main m g)

/-- Given the blocks of rows of one array, every run of the kernel ends with its blocks of columns. -/
theorem kernel_value (v : (⟨2, ![4096, 2048]⟩ : Shape).Idx → Elt F .bf16)
    (hx : ∀ c : Dev nD, m ((c.tc : Thread nD τ).loc main_arg0)
      = Layout.blockN ⟨2, ![1024, 2048]⟩ ⟨2, ![4096, 2048]⟩ (Layout.meshBlock [2, 2, 4] ![[2], []] c) v) :
    θ_run (defs (F := F)) (onTc (τ := τ) (main (F := F))) ⟨m, fun _ => 0, g⟩ fun r => ∀ c : Dev nD,
      r.2.mem ((c.tc : Thread nD τ).loc main_v1)
          = Layout.blockN ⟨2, ![4096, 512]⟩ ⟨2, ![4096, 2048]⟩ (Layout.meshBlock [2, 2, 4] ![[], [2]] c) v
        ∧ r.2.mem ((c.tc : Thread nD τ).loc main_arg0) = m ((c.tc : Thread nD τ).loc main_arg0) :=
  (θ_run defs _ _).mono (fun _ h c => ⟨((h.1 c (1 : Fin 2)).trans (final_o m c)).trans (outAt_eq m v hx c),
    (h.1 c (0 : Fin 2)).trans (final_x m c)⟩) (run_main m g)

end

theorem quiescent_kernel : Cert.quiescent_Kernel := fun m g _ => by
  have h := kernel_frame (F := Bits) m g
  rw [same_run] at h
  exact h

theorem quiescent_kernelIdeal : Cert.quiescent_KernelIdeal := fun m g _ => kernel_frame (F := Ideal) m g

theorem quiescent_referenceIdeal : Cert.quiescent_ReferenceIdeal := fun m g _ => Ref.run_referenceIdeal (F := Ideal) m g

theorem quiescent_reference : Cert.quiescent_Reference := fun m g _ => Ref.run_reference (F := Bits) m g

theorem algebraic : Cert.algebraic_KernelIdeal_ReferenceIdeal := fun m g m' g' _ hx =>
  ⟨m' (((0 : Dev Cert.ReferenceIdeal.nD).tc : Thread Cert.ReferenceIdeal.nD Cert.ReferenceIdeal.τ).loc Cert.ReferenceIdeal.main_arg0),
    kernel_value (F := Ideal) m g _ hx,
    (θ_run Cert.ReferenceIdeal.defs _ _).mono (fun _ h => ⟨h.1 0, h.1 0⟩) (Ref.run_referenceIdeal (F := Ideal) m' g')⟩

theorem bitexact : Cert.bitexact_Kernel_Reference := fun m g m' g' _ hx => by
  have h := kernel_value (F := Bits) m g _ hx
  rw [same_run] at h
  exact ⟨m' (((0 : Dev Cert.Reference.nD).tc : Thread Cert.Reference.nD Cert.Reference.τ).loc Cert.Reference.main_arg0), h,
    (θ_run Cert.Reference.defs _ _).mono (fun _ h => ⟨h.1 0, h.1 0⟩) (Ref.run_reference (F := Bits) m' g')⟩

/-- The seven claims together. -/
theorem claim : Cert.Claim := ⟨Cert.Kernel.Gen.facts, Cert.KernelIdeal.Gen.facts, Cert.ReferenceIdeal.Gen.facts, Cert.Reference.Gen.facts,
  quiescent_kernel, quiescent_kernelIdeal, quiescent_referenceIdeal, quiescent_reference, trivial, algebraic, bitexact⟩

end Cert.Proof

end
